-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x4x1000 : Shape := ⟨3, ![16384, 4, 1000]⟩
abbrev S4x1000x16 : Shape := ⟨3, ![4, 1000, 16]⟩
abbrev S4x1000x16384 : Shape := ⟨3, ![4, 1000, 16384]⟩
abbrev S4x16x1000 : Shape := ⟨3, ![4, 16, 1000]⟩
abbrev S1x16384 : Shape := ⟨2, ![1, 16384]⟩
abbrev S4x1000x512 : Shape := ⟨3, ![4, 1000, 512]⟩
abbrev S1x512 : Shape := ⟨2, ![1, 512]⟩
abbrev S1x16x1000 : Shape := ⟨3, ![1, 16, 1000]⟩
abbrev S16x1000 : Shape := ⟨2, ![16, 1000]⟩
abbrev S1x1000x512 : Shape := ⟨3, ![1, 1000, 512]⟩
abbrev S1000x512 : Shape := ⟨2, ![1000, 512]⟩
abbrev S16x512 : Shape := ⟨2, ![16, 512]⟩
abbrev S512 : Shape := ⟨1, ![512]⟩
abbrev S16384 : Shape := ⟨1, ![16384]⟩

abbrev nBuf : Space → Nat
  | .hbm => 6
  | .vmem => 5
  | .smem => 0
  | _ => 0

abbrev bufTy : (tb : Table) → Fin (tcTables nBuf tb) → BufTy
  | .hbm, ⟨0, _⟩ => ⟨S16384x4x1000, .f32⟩
  | .hbm, ⟨1, _⟩ => ⟨S4x1000x16, .f32⟩
  | .hbm, ⟨2, _⟩ => ⟨S4x1000x16384, .f32⟩
  | .hbm, ⟨3, _⟩ => ⟨S4x16x1000, .f32⟩
  | .hbm, ⟨4, _⟩ => ⟨S1x16384, .f32⟩
  | .hbm, ⟨5, _⟩ => ⟨S16384, .f32⟩
  | .local _ .vmem, ⟨0, _⟩ => ⟨S4x1000x512, .f32⟩
  | .local _ .vmem, ⟨1, _⟩ => ⟨S4x1000x512, .f32⟩
  | .local _ .vmem, ⟨2, _⟩ => ⟨S4x16x1000, .f32⟩
  | .local _ .vmem, ⟨3, _⟩ => ⟨S1x512, .f32⟩
  | .local _ .vmem, ⟨4, _⟩ => ⟨S1x512, .f32⟩
  | _, _ => ⟨S16384x4x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x16x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x4x1000 : Shape := ⟨3, ![16384, 4, 1000]⟩
abbrev S4x1000x16 : Shape := ⟨3, ![4, 1000, 16]⟩
abbrev S4x16x16384 : Shape := ⟨3, ![4, 16, 16384]⟩
abbrev S16384x4x16 : Shape := ⟨3, ![16384, 4, 16]⟩
abbrev S16384x1x16 : Shape := ⟨3, ![16384, 1, 16]⟩
abbrev S16384x16 : Shape := ⟨2, ![16384, 16]⟩
abbrev S_ : Shape := ⟨0, ![]⟩
abbrev S16384 : Shape := ⟨1, ![16384]⟩

abbrev nBuf : Space → Nat
  | .hbm => 17
  | .vmem => 0
  | .smem => 0
  | _ => 0

abbrev bufTy : (tb : Table) → Fin (tcTables nBuf tb) → BufTy
  | .hbm, ⟨0, _⟩ => ⟨S16384x4x1000, .f32⟩
  | .hbm, ⟨1, _⟩ => ⟨S4x1000x16, .f32⟩
  | .hbm, ⟨2, _⟩ => ⟨S4x16x16384, .f32⟩
  | .hbm, ⟨3, _⟩ => ⟨S16384x4x16, .f32⟩
  | .hbm, ⟨4, _⟩ => ⟨S16384x1x16, .f32⟩
  | .hbm, ⟨5, _⟩ => ⟨S16384x16, .f32⟩
  | .hbm, ⟨6, _⟩ => ⟨S16384x1x16, .f32⟩
  | .hbm, ⟨7, _⟩ => ⟨S16384x16, .f32⟩
  | .hbm, ⟨8, _⟩ => ⟨S16384x16, .f32⟩
  | .hbm, ⟨9, _⟩ => ⟨S16384x1x16, .f32⟩
  | .hbm, ⟨10, _⟩ => ⟨S16384x16, .f32⟩
  | .hbm, ⟨11, _⟩ => ⟨S16384x16, .f32⟩
  | .hbm, ⟨12, _⟩ => ⟨S16384x1x16, .f32⟩
  | .hbm, ⟨13, _⟩ => ⟨S16384x16, .f32⟩
  | .hbm, ⟨14, _⟩ => ⟨S16384x16, .f32⟩
  | .hbm, ⟨15, _⟩ => ⟨S_, .f32⟩
  | .hbm, ⟨16, _⟩ => ⟨S16384, .f32⟩
  | _, _ => ⟨S16384x4x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Proof.Cp.lean ====
/-
  The mathematics of the problem, free of any program: the CP (canonical polyadic) form of an order-4 tensor,
  evaluated at each sample of a batch.

  For a sample `s`, a mode `a` and a rank component `t`, the row `X s a ·` is paired with column `t` of the factor
  matrix of mode `a`; the four modes' pairings are multiplied, and the products are summed over the rank.
-/
module

public import Idealize.ShloMosaic.Lib.Pointwise

@[expose] public section

noncomputable section

namespace Cert.Proof.Cp

open Idealize.ShloMosaic
open scoped BigOperators

/-- The batch: sample, mode, position in the mode. -/
abbrev Samples : Type := (⟨3, ![16384, 4, 1000]⟩ : Shape).Idx → EReal
/-- The factor matrices: mode, position in the mode, rank component. -/
abbrev Factors : Type := (⟨3, ![4, 1000, 16]⟩ : Shape).Idx → EReal

/-- Mode `a`'s pairing of sample `s` with rank component `t`. -/
def pairing (X : Samples) (G : Factors) (s : Fin 16384) (a : Fin 4) (t : Fin 16) : EReal :=
  ∑ k : Fin 1000, G (ix3 a k t) * X (ix3 s a k)

/-- The CP value of sample `s`: the product over the modes, summed over the rank. -/
def value (X : Samples) (G : Factors) (s : Fin 16384) : EReal :=
  ∑ t : Fin 16, ∏ a : Fin 4, pairing X G s a t

/-- The product over the modes, written out. -/
theorem value_eq (X : Samples) (G : Factors) (s : Fin 16384) :
    value X G s = ∑ t : Fin 16, pairing X G s 0 t * pairing X G s 1 t * pairing X G s 2 t * pairing X G s 3 t :=
  Finset.sum_congr rfl fun t _ => by rw [Fin.prod_univ_four]

end Cert.Proof.Cp

end
-- ==== Proof.Block.lean ====
/-
  What one grid point of the kernel computes, at the ideal instance: from the point's block of transposed samples
  `[4, 1000, 512]` and the transposed factors `[4, 16, 1000]`, column `l` of the block it stores is the CP value of the
  block's sample `l`, in four products `[16, 1000] × [1000, 512]`, three pointwise multiplications and one sum.
-/
module

public import proofs.«01_k».proof.Proof.Gen.KernelIdeal.Frame
public import proofs.«01_k».proof.Proof.Cp
public import Idealize.ShloMosaic.Lib.Pointwise
public import Idealize.ShloMosaic.Lib.Pipeline.Value

@[expose] public section

set_option maxRecDepth 16384

noncomputable section

namespace Cert.Proof.Block

open Idealize.ShloMosaic
open Cert.KernelIdeal Cert.KernelIdeal.Gen
open scoped BigOperators

/-- Mode `a`'s product within a block, at rank component `t` and lane `l`. -/
def product (x : FVec Ideal S4x1000x512 .f32) (g : FVec Ideal S4x16x1000 .f32) (a : Fin 4) (t : Fin 16) (l : Fin 512) : EReal :=
  ∑ k : Fin 1000, (g (ix3 a t k) : EReal) * (x (ix3 a k l) : EReal)

/-- The store covers the block from its origin. -/
theorem origin : (![0, 0] : Fin 2 → Nat) = fun _ => 0 := funext fun a => by fin_cases a <;> rfl

/-- The block stored by a grid point, at lane `l`. -/
theorem out_apply (x : FVec Ideal S4x1000x512 .f32) (g : FVec Ideal S4x16x1000 .f32) (l : Fin 512) :
    (out0_2 (F := Ideal) x g (ix2 0 l) : EReal)
      = ∑ t : Fin 16, product x g 0 t l * product x g 1 t l * product x g 2 t l * product x g 3 t l := by
  unfold out0_2
  rw [View.canon_unit_zero origin]
  pointwise [Gen.k0_pay1, product]

end Cert.Proof.Block

end
-- ==== Proof.Kernel.lean ====
/-
  What the kernel computes, at the ideal instance: the 32 grid points' blocks of 512 samples tile the result, each
  point's block holds the CP values of its samples, and the reshape after the call drops the unit axis.
-/
module

public import proofs.«01_k».proof.Proof.Block
public import Idealize.ShloMosaic.Lib.StableHlo.Run

@[expose] public section

set_option maxRecDepth 16384

noncomputable section

namespace Cert.Proof.Kernel

open Idealize.ShloMosaic Idealize.ShloMosaic.TcCoe Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg)

/-- The batch and the factors that core `c` is launched on. -/
abbrev X (c : Dev nD) : FVec Ideal S16384x4x1000 .f32 := m ((c.tc : Thread nD τ).loc main_arg0)
abbrev G (c : Dev nD) : FVec Ideal S4x1000x16 .f32 := m ((c.tc : Thread nD τ).loc main_arg1)

/-- The call's first operand is the batch with the samples moved to the last axis, -/
theorem V_samples (c : Dev nD) :
    V m c main_v0 = transpose S4x1000x16384 [1, 2, 0] (X m c) transposes_S16384x4x1000_S4x1000x16384_1_2_0 := by
  show StableHlo.after (List.flatten [hostOps0]) (fun b => m (c, b)) (Proc.devRef .tc main_v0) = _
  simp only [List.flatten_cons, List.flatten_nil, List.append_nil]
  after_results <;> rfl
/-- and its second the factors with the rank component before the position. -/
theorem V_factors (c : Dev nD) :
    V m c main_v1 = transpose S4x16x1000 [0, 2, 1] (G m c) transposes_S4x1000x16_S4x16x1000_0_2_1 := by
  show StableHlo.after (List.flatten [hostOps0]) (fun b => m (c, b)) (Proc.devRef .tc main_v1) = _
  simp only [List.flatten_cons, List.flatten_nil, List.append_nil]
  after_results <;> rfl

/-- Where the three windows' blocks start at point `t`: the samples' and the result's advance along their last axis,
    the factors' block is the whole array. -/
theorem starts : ∀ t : Fin cfg0.N,
    (win0_0.index t 0 = 0 ∧ win0_0.index t 1 = 0 ∧ win0_0.index t 2 = t.val)
    ∧ (win0_1.index t 0 = 0 ∧ win0_1.index t 1 = 0 ∧ win0_1.index t 2 = 0)
    ∧ win0_2.index t 0 = 0 ∧ win0_2.index t 1 = t.val :=
  (by decide +kernel : ∀ t : Fin grid0.N, _)

theorem point_lt (t : Fin cfg0.N) : t.val < 32 := lt_of_lt_of_eq t.isLt Gen.N_0

/-- The sample that lane `l` of point `t`'s block holds. -/
def sample (t : Fin cfg0.N) (l : Fin 512) : Fin 16384 := ⟨t.val * 512 + l.val, by have := point_lt t; omega⟩

/-- Point `t`'s block of samples, read from the batch. -/
theorem samples_block (c : Dev nD) (t : Fin cfg0.N) (a : Fin 4) (k : Fin 1000) (l : Fin 512) :
    (iblk m c 0 t (ix3 a k l) : EReal) = X m c (ix3 (sample t l) a k) := by
  show (V m c main_v0) ((win0_0.rect t).idx (ix3 a k l)) = _
  have e : (win0_0.rect t).idx (ix3 a k l) = (ix3 a k (sample t l) : S4x1000x16384.Idx) := by
    obtain ⟨⟨h0, h1, h2⟩, -⟩ := starts t
    funext d
    apply Fin.ext
    match d with
    | ⟨0, _⟩ => show win0_0.index t 0 * 4 + 1 * a.val = a.val; rw [h0]; omega
    | ⟨1, _⟩ => show win0_0.index t 1 * 1000 + 1 * k.val = k.val; rw [h1]; omega
    | ⟨2, _⟩ => show win0_0.index t 2 * 512 + 1 * l.val = t.val * 512 + l.val; rw [h2]; omega
  rw [e, V_samples]
  pointwise

/-- The factors' block, read from the factors: the same at every point. -/
theorem factors_block (c : Dev nD) (t : Fin cfg0.N) (a : Fin 4) (r : Fin 16) (k : Fin 1000) :
    (iblk m c 1 t (ix3 a r k) : EReal) = G m c (ix3 a k r) := by
  show (V m c main_v1) ((win0_1.rect t).idx (ix3 a r k)) = _
  have e : (win0_1.rect t).idx (ix3 a r k) = (ix3 a r k : S4x16x1000.Idx) := by
    obtain ⟨-, ⟨h0, h1, h2⟩, -⟩ := starts t
    funext d
    apply Fin.ext
    match d with
    | ⟨0, _⟩ => show win0_1.index t 0 * 4 + 1 * a.val = a.val; rw [h0]; omega
    | ⟨1, _⟩ => show win0_1.index t 1 * 16 + 1 * r.val = r.val; rw [h1]; omega
    | ⟨2, _⟩ => show win0_1.index t 2 * 1000 + 1 * k.val = k.val; rw [h2]; omega
  rw [e, V_factors]
  pointwise

/-- A product within a point's block is the pairing of the sample that the lane holds. -/
theorem product_block (c : Dev nD) (t : Fin cfg0.N) (a : Fin 4) (r : Fin 16) (l : Fin 512) :
    Block.product (iblk m c 0 t) (iblk m c 1 t) a r l = Cp.pairing (X m c) (G m c) (sample t l) a r :=
  Finset.sum_congr rfl fun k _ => by
    have h0 := samples_block m c t a k l
    have h1 := factors_block m c t a r k
    exact congrArg₂ (fun x y : EReal => x * y) h1 h0

/-- The call's result as one row: the CP value of every sample. -/
def row (c : Dev nD) : FVec Ideal S1x16384 .f32 := fun i => Cp.value (X m c) (G m c) (i 1)

/-- An index of the stored block is its lane. -/
theorem lane_index (j : S1x512.Idx) : j = ix2 0 (j 1) := by
  funext a
  match a with
  | ⟨0, _⟩ => exact Subsingleton.elim (α := Fin 1) _ _
  | ⟨1, _⟩ => rfl

/-- What point `t` writes back is its block of that row. -/
theorem flushed_eq (c : Dev nD) (t : Fin cfg0.N) :
    (dats m 0 c).flushed 2 t = ((cfg0.win 2).blk t).view.read (Elt Ideal) (row m c) := by
  show (cfg0.win 2).cut (grid0.coords t) ((dats m 0 c).after 2 t) = _
  rw [after0_2]
  funext j
  obtain ⟨l, rfl⟩ : ∃ l : Fin 512, j = (ix2 0 l : S1x512.Idx) := ⟨j 1, lane_index j⟩
  refine Eq.trans (b := out0_2 (F := Ideal) (iblk m c 0 t) (iblk m c 1 t) (ix2 0 l)) rfl ?_
  rw [Block.out_apply]
  show _ = row m c ((win0_2.rect t).idx (ix2 0 l))
  have e : ((win0_2.rect t).idx (ix2 0 l) : S1x16384.Idx) 1 = sample t l := by
    obtain ⟨-, -, -, h1⟩ := starts t
    apply Fin.ext
    show win0_2.index t 1 * 512 + 1 * l.val = t.val * 512 + l.val
    rw [h1]; omega
  unfold row
  rw [e, Cp.value_eq]
  simp only [product_block]

/-- An index of the row is in point `t`'s block when its sample is among the point's 512. -/
theorem mem_blk (t : Fin cfg0.N) (i : S1x16384.Idx) :
    i ∈ ((cfg0.win 2).blk t).view.set ↔ t.val * 512 ≤ (i 1 : Nat) ∧ (i 1 : Nat) < t.val * 512 + 512 := by
  show i ∈ ((View.whole main_v2).slice (win0_2.rect t)).set ↔ _
  rw [View.set_slice_whole, Rect.mem_set_unit]
  obtain ⟨-, -, h0, h1⟩ := starts t
  have i0 : (i 0 : Nat) < 1 := (i 0).isLt
  refine ⟨fun h => ?_, fun h a => ?_⟩
  · have h' : win0_2.index t 1 * 512 ≤ (i 1 : Nat) ∧ (i 1 : Nat) < win0_2.index t 1 * 512 + 512 := h 1
    rw [h1] at h'; exact h'
  · match a with
    | ⟨0, _⟩ => show win0_2.index t 0 * 1 ≤ (i 0 : Nat) ∧ (i 0 : Nat) < win0_2.index t 0 * 1 + 1
                rw [h0]; omega
    | ⟨1, _⟩ => show win0_2.index t 1 * 512 ≤ (i 1 : Nat) ∧ (i 1 : Nat) < win0_2.index t 1 * 512 + 512
                rw [h1]; exact h

/-- The points' blocks cover the row. -/
theorem cover (i : S1x16384.Idx) :
    ∃ t : Fin cfg0.N, (cfg0.win 2).flush t = true ∧ i ∈ ((cfg0.win 2).blk t).view.set := by
  have h : (i 1 : Nat) < 16384 := (i 1).isLt
  refine ⟨⟨(i 1 : Nat) / 512, by show _ < grid0.N; rw [Gen.N_0]; omega⟩, flush0_2 _, ?_⟩
  rw [mem_blk]
  dsimp only
  omega

/-- So the call's result is the row of CP values, -/
theorem final (c : Dev nD) : (dats m 0 c).arrAt 2 cfg0.N = row m c :=
  (dats m 0 c).arrAt_eq_of_cover 2 (row m c) (fun t _ => flushed_eq m c t) cover

/-- and the program's result, after the reshape, is the CP value of each sample. -/
theorem result (c : Dev nD) :
    Pipeline.afterTail₀ cfgs (dats m) 0 (V0 m) [hostOps1] c main_v3
      = fun i : S16384.Idx => Cp.value (X m c) (G m c) (i 0) := by
  unfold Pipeline.afterTail₀
  have h : Pipeline.withArrays (cfgs 0).spec c (V0 m c) (fun w => (dats m 0 c).arrAt w (cfgs 0).N) (Proc.devRef .tc main_v2) = row m c :=
    (Pipeline.withArrays_arr spec0 launch0.win.arr_inj c (V0 m c) (fun w => (dats m 0 c).arrAt w cfg0.N) 2).trans (final m c)
  generalize Pipeline.withArrays (cfgs 0).spec c (V0 m c) (fun w => (dats m 0 c).arrAt w (cfgs 0).N) = W at h ⊢
  have e : StableHlo.after [hostOps1].flatten W (Proc.devRef .tc main_v3) = shapeCast S16384 (row m c) shapeCasts_S1x16384_S16384 := by
    rw [← h]
    simp only [List.flatten_cons, List.flatten_nil, List.append_nil]
    after_results <;> rfl
  rw [e]
  funext i
  obtain ⟨s, rfl⟩ : ∃ s : Fin 16384, i = ix1 s := ⟨i 0, eq_ix1 i⟩
  pointwise [row]

/-- The kernel's run: the result at the CP value of every sample, the arguments unchanged. -/
theorem run : θ_run (defs (F := Ideal)) (onTc (τ := τ) (main (F := Ideal))) ⟨m, fun _ => 0, ρ⟩ fun r => ∀ c : Dev nD,
      (r.2.mem ((c.tc : Thread nD τ).loc main_v3) = fun i : S16384.Idx => Cp.value (X m c) (G m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Proof.Kernel

end
-- ==== Proof.Ref.lean ====
/-
  What the reference computes, at the ideal instance: its result at sample `s` is the CP value of that sample.
-/
module

public import proofs.«01_k».proof.Proof.Gen.ReferenceIdeal.Run
public import proofs.«01_k».proof.Proof.Cp
public import Idealize.ShloMosaic.Lib.Pointwise

@[expose] public section

set_option maxRecDepth 16384

noncomputable section

namespace Cert.Proof.Ref

open Idealize.ShloMosaic Idealize.ShloMosaic.TcCoe Idealize.SL.Sem
open Cert.ReferenceIdeal Cert.ReferenceIdeal.Gen
open scoped BigOperators

/-- The reference's product for all samples, modes and rank components at once. -/
abbrev products (X : FVec Ideal S16384x4x1000 .f32) (G : FVec Ideal S4x1000x16 .f32) : FVec Ideal S16384x4x16 .f32 :=
  transpose S16384x4x16 [2, 0, 1] (Host.dotGeneral (F := Ideal) (φ₁ := .f32) (φ₂ := .f32) dot_S4x1000x16_S16384x4x1000_S4x16x16384_1_2_2_0_0_1 none G X) transposes_S4x16x16384_S16384x4x16_2_0_1

/-- It is the pairing of sample `s` with component `t`, mode by mode. -/
theorem products_apply (X : FVec Ideal S16384x4x1000 .f32) (G : FVec Ideal S4x1000x16 .f32) (s : Fin 16384) (a : Fin 4) (t : Fin 16) :
    (products X G (ix3 s a t) : EReal) = Cp.pairing X G s a t := by
  pointwise [products, Cp.pairing]

/-- The multiplied slices, summed over the rank. -/
theorem combine_apply (Y : FVec Ideal S16384x4x16 .f32) (s : Fin 16384) :
    (Host.reduceAdd (F := Ideal) (mulf (mulf (mulf
        (shapeCast S16384x16 (extractStridedSlice S16384x1x16 ![0, 0, 0] Y slices_S16384x4x16_S16384x1x16_0_0_0) shapeCasts_S16384x1x16_S16384x16)
        (shapeCast S16384x16 (extractStridedSlice S16384x1x16 ![0, 1, 0] Y slices_S16384x4x16_S16384x1x16_0_1_0) shapeCasts_S16384x1x16_S16384x16))
        (shapeCast S16384x16 (extractStridedSlice S16384x1x16 ![0, 2, 0] Y slices_S16384x4x16_S16384x1x16_0_2_0) shapeCasts_S16384x1x16_S16384x16))
        (shapeCast S16384x16 (extractStridedSlice S16384x1x16 ![0, 3, 0] Y slices_S16384x4x16_S16384x1x16_0_3_0) shapeCasts_S16384x1x16_S16384x16))
      (constant S_ .f32 0x00000000#32) reducesTo_S16384x16_S16384_d1 h_S_ (ix1 s) : EReal)
      = ∑ t : Fin 16, (Y (ix3 s 0 t) : EReal) * Y (ix3 s 1 t) * Y (ix3 s 2 t) * Y (ix3 s 3 t) := by
  pointwise

/-- The reference's run: the result at the CP value of every sample, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v13) = fun i : S16384.Idx =>
        Cp.value (m ((c.tc : Thread nD τ).loc main_arg0)) (m ((c.tc : Thread nD τ).loc main_arg1)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.ReferenceIdeal.Value.run (F := Ideal) m ρ)
  funext i
  obtain ⟨s, rfl⟩ : ∃ s : Fin 16384, i = ix1 s := ⟨i 0, eq_ix1 i⟩
  refine (combine_apply (products (m ((c.tc : Thread nD τ).loc main_arg0)) (m ((c.tc : Thread nD τ).loc main_arg1))) s).trans ?_
  simp only [products_apply]
  exact (Cp.value_eq _ _ s).symm

end Cert.Proof.Ref

end
-- ==== Proof.lean ====
/-
  The certificate, assembled: the kernel's and its ideal reading's frames, the reference's frame, and the equality of
  kernel and reference over the extended reals, both results being the CP value of each sample (Proof/Cp.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs to the end without fault, keeps its arguments and leaves every semaphore counter at zero; -/
theorem frame_kernel : Cert.quiescent_Kernel := fun m ρ _ => Cert.Kernel.Gen.frame m ρ

/-- so does its ideal reading, -/
theorem frame_ideal : Cert.quiescent_KernelIdeal := fun m ρ _ => Cert.KernelIdeal.Gen.frame m ρ

/-- and the reference, which has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Ref.run m ρ)

/-- Over the extended reals the kernel and the reference compute the same function: the CP value of each sample. -/
theorem algebraic : Cert.algebraic_KernelIdeal_ReferenceIdeal := fun m ρ m' ρ' _ hagree =>
  ⟨fun c => fun i => Cp.value (Kernel.X m c) (Kernel.G m c) (i 0), Kernel.run m ρ,
    (θ_run Cert.ReferenceIdeal.defs _ _).mono
      (fun _ h c => ⟨(h c).1.trans (by rw [(hagree c).1, (hagree c).2]; rfl), (h c).2⟩) (Ref.run m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
